-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v4)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v4) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S6x16x384x28x28 : Shape := ⟨5, ![6, 16, 384, 28, 28]⟩
abbrev S6x28x28x16x384 : Shape := ⟨5, ![6, 28, 28, 16, 384]⟩
abbrev S75264x384 : Shape := ⟨2, ![75264, 384]⟩
abbrev S6272x384 : Shape := ⟨2, ![6272, 384]⟩

abbrev nBuf : Space → Nat
  | .hbm => 6
  | .vmem => 4
  | .smem => 0
  | _ => 0

abbrev bufTy : (tb : Table) → Fin (tcTables nBuf tb) → BufTy
  | .hbm, ⟨0, _⟩ => ⟨S6x16x384x28x28, .f32⟩
  | .hbm, ⟨1, _⟩ => ⟨S6x28x28x16x384, .f32⟩
  | .hbm, ⟨2, _⟩ => ⟨S75264x384, .f32⟩
  | .hbm, ⟨3, _⟩ => ⟨S75264x384, .f32⟩
  | .hbm, ⟨4, _⟩ => ⟨S6x28x28x16x384, .f32⟩
  | .hbm, ⟨5, _⟩ => ⟨S6x16x384x28x28, .f32⟩
  | .local _ .vmem, ⟨0, _⟩ => ⟨S6272x384, .f32⟩
  | .local _ .vmem, ⟨1, _⟩ => ⟨S6272x384, .f32⟩
  | .local _ .vmem, ⟨2, _⟩ => ⟨S6272x384, .f32⟩
  | .local _ .vmem, ⟨3, _⟩ => ⟨S6272x384, .f32⟩
  | _, _ => ⟨S6x16x384x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6272x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6272x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S6x16x384x28x28 : Shape := ⟨5, ![6, 16, 384, 28, 28]⟩
abbrev S16x6x384x28x28 : Shape := ⟨5, ![16, 6, 384, 28, 28]⟩

abbrev nBuf : Space → Nat
  | .hbm => 3
  | .vmem => 0
  | .smem => 0
  | _ => 0

abbrev bufTy : (tb : Table) → Fin (tcTables nBuf tb) → BufTy
  | .hbm, ⟨0, _⟩ => ⟨S6x16x384x28x28, .f32⟩
  | .hbm, ⟨1, _⟩ => ⟨S16x6x384x28x28, .f32⟩
  | .hbm, ⟨2, _⟩ => ⟨S6x16x384x28x28, .f32⟩
  | _, _ => ⟨S6x16x384x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Proof.Layout.lean ====
/-
  Permuting the axes of an array and permuting them back: plain facts on `transpose`, and the two round trips that the
  two programs make.
-/
module

public import Idealize.ShloMosaic.Lib.Pipeline.Value

@[expose] public section

namespace Cert.Layout

open Idealize.ShloMosaic

variable {α : Type} {s u : Shape}

/-- A permutation of the axes followed by the one that undoes it leaves every element where it was: `hinv` says that
    axis `a`, which the first permutation puts at position `p.idxOf a`, is put at position `a` again by the second. -/
theorem transpose_back (p : List (Fin s.rank)) (q : List (Fin u.rank)) (hp : s.Transposes p u) (hq : u.Transposes q s)
    (hinv : ∀ a : Fin s.rank, ∀ b : Fin u.rank, b.val = p.idxOf a → q.idxOf b = a.val) (x : s.Idx → α) :
    transpose s q (transpose u p x hp) hq = x := by
  funext j
  refine congrArg x (funext fun a => Fin.ext ?_)
  have ha : p.idxOf a < p.length := List.idxOf_lt_length_iff.2 (hp.1.mem_iff.2 (List.mem_finRange a))
  exact congrArg (fun k : Fin s.rank => (j k).val)
    (Fin.ext (hinv a (Fin.cast hp.2.1.symm ⟨p.idxOf a, ha⟩) rfl) :
      (⟨q.idxOf (Fin.cast hp.2.1.symm ⟨p.idxOf a, ha⟩), by
        rw [hinv a _ rfl]; exact a.isLt⟩ : Fin s.rank) = a)

/-- An array laid out anew, flattened, unflattened and laid out as before is the array itself, whatever the flat shape. -/
theorem relayout_back {v : Shape} (p : List (Fin s.rank)) (q : List (Fin u.rank)) (hp : s.Transposes p u)
    (hq : u.Transposes q s) (hinv : ∀ a : Fin s.rank, ∀ b : Fin u.rank, b.val = p.idxOf a → q.idxOf b = a.val)
    (h : u.ShapeCasts v) (h' : v.ShapeCasts u) (x : s.Idx → α) :
    transpose s q (shapeCast u (shapeCast v (transpose u p x hp) h) h') hq = x := by
  rw [shapeCast_shapeCast, transpose_back p q hp hq hinv]

end Cert.Layout
-- ==== Proof.Copy.lean ====
/-
  What the kernel computes, at any float values: its twelve blocks copy the flat array, and the host's layout steps
  around the copy undo each other, so the result array ends holding the argument.
-/
module

public import proofs.«01_k».proof.Proof.Gen.Kernel.Frame
public import proofs.«01_k».proof.Proof.Layout
public import Idealize.ShloMosaic.Lib.Pipeline.ValueKit

@[expose] public section

noncomputable section

namespace Cert.Kernel.Copy

open Cert.Kernel Cert.Kernel.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The body's output block is its input block. -/
theorem block_copied (x : Vec F S6272x384 .f32) : out0_1 x = x := by
  frame_out
  exact shapeCast_self x _

/-- The twelve blocks of 6272 rows fill the flat array, so after the pipeline it is the flat array that was read. -/
theorem array_copied (c : Dev nD) : (dats m 0 c).arrAt 1 cfg0.N = V m c main_v1 := by
  refine (dats m 0 c).arrAt_eq_of_covers 1 (V m c main_v1) (by decide +kernel) fun t _ y => ?_
  rw [after0_1, block_copied]
  rfl

/-- What the pipeline reads: the argument with its channel axis last, as a flat array of rows. -/
theorem entry (c : Dev nD) : V m c main_v1 = shapeCast S75264x384 (transpose S6x28x28x16x384 [0, 3, 4, 1, 2]
    (m ((c : Thread nD τ).loc main_arg0)) transposes_S6x16x384x28x28_S6x28x28x16x384_0_3_4_1_2)
    shapeCasts_S6x28x28x16x384_S75264x384 := by
  show StableHlo.after (hostOps0 (F := F)) (fun b => m (c, b)) (Proc.devRef .tc main_v1) = _
  after_results
  rfl

/-- The axis order (0, 3, 4, 1, 2) undoes itself. -/
theorem order_back : ∀ a b : Fin 5, b.val = ([0, 3, 4, 1, 2] : List (Fin 5)).idxOf a →
    ([0, 3, 4, 1, 2] : List (Fin 5)).idxOf b = a.val := by decide

/-- What the lines after the pipeline leave in the result array: the argument. They unflatten the copied array and put
    the channel axis back, which undoes what was done before the pipeline. -/
theorem result (c : Dev nD) :
    Pipeline.afterTail₀ cfgs (dats m) 0 (V0 m) [hostOps1] c main_v4 = m ((c : Thread nD τ).loc main_arg0) := by
  have hread : Pipeline.withArrays (cfgs 0).spec c (V0 m c) (fun w => (dats m 0 c).arrAt w (cfgs 0).N)
      (Proc.devRef .tc main_v2) = V m c main_v1 :=
    (Pipeline.withArrays_arr (cfgs 0).spec (by decide) c _ _ 1).trans (array_copied m c)
  have hlines (W : Valuation τ sig (Elt F)) : StableHlo.after (hostOps1 (F := F)) W (Proc.devRef .tc main_v4)
      = transpose S6x16x384x28x28 [0, 3, 4, 1, 2] (shapeCast S6x28x28x16x384 (W (Proc.devRef .tc main_v2))
          shapeCasts_S75264x384_S6x28x28x16x384) transposes_S6x28x28x16x384_S6x16x384x28x28_0_3_4_1_2 := by
    after_results
    rfl
  refine (hlines _).trans ?_
  rw [hread, entry]
  exact Layout.relayout_back _ _ _ _ order_back _ _ _

/-- Every run ends with the result array at the argument, and the argument unchanged. -/
theorem run : θ_run defs (onTc (τ := τ) (main (F := F))) ⟨m, fun _ => 0, ρ⟩ fun r => ∀ c : Dev nD,
      r.2.mem ((c.tc : Thread nD τ).loc main_v4) = m ((c.tc : Thread nD τ).loc main_arg0)
      ∧ r.2.mem ((c.tc : Thread nD τ).loc main_arg0) = m ((c.tc : Thread nD τ).loc main_arg0) :=
  (θ_run defs _ _).mono (fun _ h c =>
    ⟨((h c).2 main_v4 (Pipeline.mem_restRefs_of main_v4 (by decide) (by decide))).trans (result m c),
      ((h c).2 main_arg0 (Pipeline.mem_restRefs_of main_arg0 (by decide) (by decide))).trans (W_main_arg0 m (dats m) c)⟩)
    (run_main m ρ)

end Cert.Kernel.Copy

end
-- ==== Proof.CopyIdeal.lean ====
/-
  The idealized kernel has the kernel's own text, so what holds of the kernel at any float values holds of it.
-/
module

public import proofs.«01_k».proof.Proof.Gen.KernelIdeal.Frame
public import proofs.«01_k».proof.Proof.Copy

@[expose] public section

noncomputable section

namespace Cert.KernelIdeal.Copy

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The two body tables are one: each has the one row, the copying body. -/
theorem bodies_eq : (KernelIdeal.defs₀ (F := F) : Defs Kernel.nD Kernel.τ Kernel.sig (Elt F) Kernel.Λ₀)
    = Kernel.defs₀ (F := F) := by
  unfold KernelIdeal.defs₀ Kernel.defs₀
  refine congrArg Defs.onTc (funext fun l => funext fun x => ?_)
  match l, x with
  | 0, (_, _) => rfl

/-- So are the tables with the pipeline's own rows. -/
theorem defs_eq : (KernelIdeal.defs (F := F) : Defs Kernel.nD Kernel.τ Kernel.sig (Elt F)
    (Pipeline.Sig Kernel.Λ₀ (Fin 1) fun p => (Kernel.pcfgs (F := F) p).Adm)) = Kernel.defs (F := F) :=
  congrArg (Pipeline.defs (Kernel.pcfgs (F := F))) bodies_eq

/-- Every run ends with the result array at the argument, and the argument unchanged. -/
theorem run : θ_run defs (onTc (τ := τ) (main (F := F))) ⟨m, fun _ => 0, ρ⟩ fun r => ∀ c : Dev nD,
      r.2.mem ((c.tc : Thread nD τ).loc main_v4) = m ((c.tc : Thread nD τ).loc main_arg0)
      ∧ r.2.mem ((c.tc : Thread nD τ).loc main_arg0) = m ((c.tc : Thread nD τ).loc main_arg0) := by
  have h := Cert.Kernel.Copy.run m ρ
  rw [← defs_eq] at h
  exact h

end Cert.KernelIdeal.Copy

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference.Run
public import proofs.«01_k».proof.Proof.Gen.ReferenceIdeal.Run
public import proofs.«01_k».proof.Proof.Copy
public import proofs.«01_k».proof.Proof.CopyIdeal
public import Idealize.ShloMosaic.Lib.Quiescent
public import Idealize.ShloMosaic.Adequacy
public import Idealize.ShloMosaic.Init

@[expose] public section

noncomputable section

namespace Cert.Proof

open Idealize.ShloMosaic Idealize.SL.Sem

/-- Swapping the two leading of five axes undoes itself. -/
theorem swap_back : ∀ a b : Fin 5, b.val = ([1, 0, 2, 3, 4] : List (Fin 5)).idxOf a →
    ([1, 0, 2, 3, 4] : List (Fin 5)).idxOf b = a.val := by decide

/-- The frame of the reference: its run at the argument, and it has no semaphore. -/
theorem frame_reference : Cert.quiescent_Reference := fun m ρ _ =>
  (θ_run Cert.Reference.defs _ _).mono
    (fun r h => ⟨fun c => (h c).2, sem_eq_zero_of_no_sems (by decide) r.2⟩)
    (Cert.Reference.Value.run (F := Bits) m ρ)

/-- The frame of the idealized reference, likewise. -/
theorem frame_reference_ideal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Over the extended reals kernel and reference both end with the result at the argument. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    Cert.KernelIdeal.Copy.run (F := Ideal) m ρ, ?_⟩
  refine (θ_run Cert.ReferenceIdeal.defs _ _).mono (fun _ h c => ⟨((h c).1.trans ?_).trans (hagree c), (h c).2⟩)
    (Cert.ReferenceIdeal.Value.run (F := Ideal) m' ρ')
  exact Layout.transpose_back _ _ _ _ swap_back _

/-- On the words they do so too: the kernel moves data and computes nothing on it. -/
theorem bitexact : Cert.bitexact_Kernel_Reference := by
  intro m ρ m' ρ' _ hagree
  refine ⟨fun c => m ((c.tc : Thread Cert.Kernel.nD Cert.Kernel.τ).loc Cert.Kernel.main_arg0),
    Cert.Kernel.Copy.run (F := Bits) m ρ, ?_⟩
  refine (θ_run Cert.Reference.defs _ _).mono (fun _ h c => ⟨((h c).1.trans ?_).trans (hagree c), (h c).2⟩)
    (Cert.Reference.Value.run (F := Bits) m' ρ')
  exact Layout.transpose_back _ _ _ _ swap_back _

/-- Everything that the certificate claims. -/
theorem claim : Cert.Claim :=
  ⟨Cert.Kernel.Gen.facts, Cert.KernelIdeal.Gen.facts, Cert.Reference.Gen.facts, Cert.ReferenceIdeal.Gen.facts,
    fun m ρ _ => Cert.Kernel.Gen.frame m ρ, fun m ρ _ => Cert.KernelIdeal.Gen.frame m ρ,
    frame_reference, frame_reference_ideal, trivial, algebraic, bitexact⟩

end Cert.Proof

end
